-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S100000x256 : Shape := ⟨2, ![100000, 256]⟩
abbrev S1000x128 : Shape := ⟨2, ![1000, 128]⟩
abbrev S16384x3 : Shape := ⟨2, ![16384, 3]⟩
abbrev S_ : Shape := ⟨0, ![]⟩

class Facts : Prop where
  bcast_S_S16384x3 : S_.BroadcastsInDim S16384x3 (![] : Fin 0 → Fin S16384x3.rank)

variable [Facts]

def fn {F : FTy → Type} [FloatOps F] (main_arg0 : FVec F S100000x256 .f32) (main_arg1 : FVec F S1000x128 .f32) (main_arg2 : IVec S16384x3 32) : IVec S16384x3 1 :=
  let main_c : IVec S_ 32 := constantI S_ 32 0#32
  let main_v0 : IVec S16384x3 32 := broadcastInDim S16384x3 ![] bcast_S_S16384x3 main_c
  let main_v1 : IVec S16384x3 1 := cmpi .sge main_arg2 main_v0
  let main_c_0 : IVec S_ 32 := constantI S_ 32 1000#32
  let main_v2 : IVec S16384x3 32 := broadcastInDim S16384x3 ![] bcast_S_S16384x3 main_c_0
  let main_v3 : IVec S16384x3 1 := cmpi .slt main_arg2 main_v2
  let main_v4 : IVec S16384x3 1 := andi main_v1 main_v3
  main_v4
-- ==== Kernel.lean ====
abbrev S100000x256 : Shape := ⟨2, ![100000, 256]⟩
abbrev S1000x128 : Shape := ⟨2, ![1000, 128]⟩
abbrev S16384x3 : Shape := ⟨2, ![16384, 3]⟩
abbrev S3x16384 : Shape := ⟨2, ![3, 16384]⟩
abbrev S4x1x4096 : Shape := ⟨3, ![4, 1, 4096]⟩
abbrev S3x4096 : Shape := ⟨2, ![3, 4096]⟩
abbrev S1024x256 : Shape := ⟨2, ![1024, 256]⟩
abbrev S1x1x4096 : Shape := ⟨3, ![1, 1, 4096]⟩
abbrev S256x1024 : Shape := ⟨2, ![256, 1024]⟩
abbrev S1000x256 : Shape := ⟨2, ![1000, 256]⟩
abbrev S24x256 : Shape := ⟨2, ![24, 256]⟩
abbrev S1024x4096 : Shape := ⟨2, ![1024, 4096]⟩
abbrev S1x4096 : Shape := ⟨2, ![1, 4096]⟩
abbrev S4096 : Shape := ⟨1, ![4096]⟩
abbrev S256x4096 : Shape := ⟨2, ![256, 4096]⟩
abbrev S128x4096 : Shape := ⟨2, ![128, 4096]⟩
abbrev S1x128 : Shape := ⟨2, ![1, 128]⟩
abbrev S16384 : Shape := ⟨1, ![16384]⟩

abbrev nBuf : Space → Nat
  | .hbm => 6
  | .vmem => 8
  | .smem => 0
  | _ => 0

abbrev bufTy : (tb : Table) → Fin (tcTables nBuf tb) → BufTy
  | .hbm, ⟨0, _⟩ => ⟨S100000x256, .f32⟩
  | .hbm, ⟨1, _⟩ => ⟨S1000x128, .f32⟩
  | .hbm, ⟨2, _⟩ => ⟨S16384x3, .i32⟩
  | .hbm, ⟨3, _⟩ => ⟨S3x16384, .i32⟩
  | .hbm, ⟨4, _⟩ => ⟨S4x1x4096, .f32⟩
  | .hbm, ⟨5, _⟩ => ⟨S16384, .f32⟩
  | .local _ .vmem, ⟨0, _⟩ => ⟨S3x4096, .i32⟩
  | .local _ .vmem, ⟨1, _⟩ => ⟨S3x4096, .i32⟩
  | .local _ .vmem, ⟨2, _⟩ => ⟨S1024x256, .f32⟩
  | .local _ .vmem, ⟨3, _⟩ => ⟨S1000x128, .f32⟩
  | .local _ .vmem, ⟨4, _⟩ => ⟨S1x1x4096, .f32⟩
  | .local _ .vmem, ⟨5, _⟩ => ⟨S1x1x4096, .f32⟩
  | .local _ .vmem, ⟨6, _⟩ => ⟨S256x1024, .fp8e4m3⟩
  | .local _ .vmem, ⟨7, _⟩ => ⟨S256x1024, .fp8e4m3⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S100000x256 : Shape := ⟨2, ![100000, 256]⟩
abbrev S1000x128 : Shape := ⟨2, ![1000, 128]⟩
abbrev S16384x3 : Shape := ⟨2, ![16384, 3]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S16384x256 : Shape := ⟨2, ![16384, 256]⟩
abbrev S16384x128 : Shape := ⟨2, ![16384, 128]⟩
abbrev S16384x128x1 : Shape := ⟨3, ![16384, 128, 1]⟩
abbrev S16384x128x2 : Shape := ⟨3, ![16384, 128, 2]⟩

abbrev nBuf : Space → Nat
  | .hbm => 104
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1000x128, .f32⟩
  | .hbm, ⟨2, _⟩ => ⟨S16384x3, .i32⟩
  | .hbm, ⟨3, _⟩ => ⟨S16384x1, .i32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S16384x256, .f32⟩
  | .hbm, ⟨24, _⟩ => ⟨S16384x256, .i1⟩
  | .hbm, ⟨25, _⟩ => ⟨S_, .f32⟩
  | .hbm, ⟨26, _⟩ => ⟨S16384x256, .f32⟩
  | .hbm, ⟨27, _⟩ => ⟨S16384x256, .f32⟩
  | .hbm, ⟨28, _⟩ => ⟨S16384x1, .i32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S1, .i32⟩
  | .hbm, ⟨39, _⟩ => ⟨S_, .i32⟩
  | .hbm, ⟨40, _⟩ => ⟨S16384x1, .i32⟩
  | .hbm, ⟨41, _⟩ => ⟨S16384x1, .i1⟩
  | .hbm, ⟨42, _⟩ => ⟨S1x1, .i32⟩
  | .hbm, ⟨43, _⟩ => ⟨S16384x1, .i32⟩
  | .hbm, ⟨44, _⟩ => ⟨S16384x1, .i1⟩
  | .hbm, ⟨45, _⟩ => ⟨S16384x1, .i1⟩
  | .hbm, ⟨46, _⟩ => ⟨S_, .i1⟩
  | .hbm, ⟨47, _⟩ => ⟨S16384, .i1⟩
  | .hbm, ⟨48, _⟩ => ⟨S16384x128, .f32⟩
  | .hbm, ⟨49, _⟩ => ⟨S16384x128, .i1⟩
  | .hbm, ⟨50, _⟩ => ⟨S_, .f32⟩
  | .hbm, ⟨51, _⟩ => ⟨S16384x128, .f32⟩
  | .hbm, ⟨52, _⟩ => ⟨S16384x128, .f32⟩
  | .hbm, ⟨53, _⟩ => ⟨S16384x1, .i32⟩
  | .hbm, ⟨54, _⟩ => ⟨S16384, .i32⟩
  | .hbm, ⟨55, _⟩ => ⟨S_, .i32⟩
  | .hbm, ⟨56, _⟩ => ⟨S16384, .i32⟩
  | .hbm, ⟨57, _⟩ => ⟨S16384, .i1⟩
  | .hbm, ⟨58, _⟩ => ⟨S_, .i32⟩
  | .hbm, ⟨59, _⟩ => ⟨S16384, .i32⟩
  | .hbm, ⟨60, _⟩ => ⟨S16384, .i32⟩
  | .hbm, ⟨61, _⟩ => ⟨S16384, .i32⟩
  | .hbm, ⟨62, _⟩ => ⟨S16384x1, .i32⟩
  | .hbm, ⟨63, _⟩ => ⟨S1, .i32⟩
  | .hbm, ⟨64, _⟩ => ⟨S_, .i32⟩
  | .hbm, ⟨65, _⟩ => ⟨S16384x1, .i32⟩
  | .hbm, ⟨66, _⟩ => ⟨S16384x1, .i1⟩
  | .hbm, ⟨67, _⟩ => ⟨S1x1, .i32⟩
  | .hbm, ⟨68, _⟩ => ⟨S16384x1, .i32⟩
  | .hbm, ⟨69, _⟩ => ⟨S16384x1, .i1⟩
  | .hbm, ⟨70, _⟩ => ⟨S16384x1, .i1⟩
  | .hbm, ⟨71, _⟩ => ⟨S_, .i1⟩
  | .hbm, ⟨72, _⟩ => ⟨S16384, .i1⟩
  | .hbm, ⟨73, _⟩ => ⟨S16384x256, .f32⟩
  | .hbm, ⟨74, _⟩ => ⟨S16384x256, .i1⟩
  | .hbm, ⟨75, _⟩ => ⟨S_, .f32⟩
  | .hbm, ⟨76, _⟩ => ⟨S16384x256, .f32⟩
  | .hbm, ⟨77, _⟩ => ⟨S16384x256, .f32⟩
  | .hbm, ⟨78, _⟩ => ⟨S16384x128, .f32⟩
  | .hbm, ⟨79, _⟩ => ⟨S16384x128, .f32⟩
  | .hbm, ⟨80, _⟩ => ⟨S16384x128, .f32⟩
  | .hbm, ⟨81, _⟩ => ⟨S16384x128, .f32⟩
  | .hbm, ⟨82, _⟩ => ⟨S16384x128, .f32⟩
  | .hbm, ⟨83, _⟩ => ⟨S16384x128, .f32⟩
  | .hbm, ⟨84, _⟩ => ⟨S16384x128, .f32⟩
  | .hbm, ⟨85, _⟩ => ⟨S16384x128, .f32⟩
  | .hbm, ⟨86, _⟩ => ⟨S16384x128, .f32⟩
  | .hbm, ⟨87, _⟩ => ⟨S16384x128, .f32⟩
  | .hbm, ⟨88, _⟩ => ⟨S16384x128, .f32⟩
  | .hbm, ⟨89, _⟩ => ⟨S16384x128, .f32⟩
  | .hbm, ⟨90, _⟩ => ⟨S16384x128, .f32⟩
  | .hbm, ⟨91, _⟩ => ⟨S16384x128, .f32⟩
  | .hbm, ⟨92, _⟩ => ⟨S16384x128x1, .f32⟩
  | .hbm, ⟨93, _⟩ => ⟨S16384x128x1, .f32⟩
  | .hbm, ⟨94, _⟩ => ⟨S16384x128x2, .f32⟩
  | .hbm, ⟨95, _⟩ => ⟨S16384x128x2, .f32⟩
  | .hbm, ⟨96, _⟩ => ⟨S_, .f32⟩
  | .hbm, ⟨97, _⟩ => ⟨S16384x128, .f32⟩
  | .hbm, ⟨98, _⟩ => ⟨S16384x128, .f32⟩
  | .hbm, ⟨99, _⟩ => ⟨S_, .f32⟩
  | .hbm, ⟨100, _⟩ => ⟨S16384, .f32⟩
  | .hbm, ⟨101, _⟩ => ⟨S_, .f32⟩
  | .hbm, ⟨102, _⟩ => ⟨S16384, .f32⟩
  | .hbm, ⟨103, _⟩ => ⟨S16384, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v8 : Ref sig .tc := ⟨.hbm, 77, rfl⟩
abbrev main_v9 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_call3_v0 : Ref sig .tc := ⟨.hbm, 95, rfl⟩
abbrev main_call3_cst : Ref sig .tc := ⟨.hbm, 96, rfl⟩
abbrev main_call3_v1 : Ref sig .tc := ⟨.hbm, 97, rfl⟩
abbrev main_v26 : Ref sig .tc := ⟨.hbm, 98, rfl⟩
abbrev main_cst : Ref sig .tc := ⟨.hbm, 99, rfl⟩
abbrev main_v27 : Ref sig .tc := ⟨.hbm, 100, rfl⟩
abbrev main_cst_0 : Ref sig .tc := ⟨.hbm, 101, rfl⟩
abbrev main_v28 : Ref sig .tc := ⟨.hbm, 102, rfl⟩
abbrev main_v29 : Ref sig .tc := ⟨.hbm, 103, rfl⟩

abbrev nD : Nat := 1
abbrev τ : Topo := Topo.v7x

variable {F : FTy → Type} [FloatOps F]
-- ==== Proof.Block.lean ====
/-
  What one grid point of the kernel computes, for any float values: the block of scores it stores, as the kernel's own
  arithmetic on the block of ids and the two transposed tables, and what the two tables in scratch hold at every point.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Scores

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- Two zero offsets are the constant zero offset. -/
theorem off2 : (![0, 0] : Fin 2 → Nat) = fun _ => 0 := funext fun a => by fin_cases a <;> rfl
/-- Three zero offsets are the constant zero offset. -/
theorem off3 : (![0, 0, 0] : Fin 3 → Nat) = fun _ => 0 := funext fun a => by fin_cases a <;> rfl

/-- The block of scores of a block of ids (one column per triplet), from the transposed node table and the transposed
    table of cosines and sines. -/
def scores (ids : Vec F S3x4096 .i32) (nodes angles : Vec F S256x1024 .fp8e4m3) : FVec F S1x1x4096 .f32 :=
  k0_pay1 (k0_pay5 ids) (k0_pay6 ids nodes) (k0_pay7 ids nodes) angles (constant S256x4096 .f32 0x00000000#32)

/-- At a point that does not fill the tables, the stored block is the scores from the tables as they are. -/
theorem out_B (c : Dev nD) (i : grid0.Coords) (a1 : Memref sig .tc .vmem S3x4096 .i32) (h1 : a1.IsWhole)
    (a2 : Memref sig .tc .vmem S1024x256 .f32) (h2 : a2.IsWhole) (a3 : Memref sig .tc .vmem S1000x128 .f32) (h3 : a3.IsWhole)
    (a4 : Memref sig .tc .vmem S1x1x4096 .f32) (h4 : a4.IsWhole) (a5 : Memref sig .tc .vmem S256x1024 .fp8e4m3) (h5 : a5.IsWhole)
    (a6 : Memref sig .tc .vmem S256x1024 .fp8e4m3) (h6 : a6.IsWhole) (hc : ¬cond0_0 i)
    (x0 : Vec F S3x4096 .i32) (x1 : Vec F S1024x256 .f32) (x2 : Vec F S1000x128 .f32) (n a : Vec F S256x1024 .fp8e4m3) :
    out0_B_3 c i a1 h1 a2 h2 a3 h3 a4 h4 a5 h5 a6 h6 hc x0 x1 x2 n a = scores x0 n a := by
  unfold out0_B_3
  rw [View.read_writes_eq_canon _ _ _ (cover0_B_3 c i a1 h1 a2 h2 a3 h3 a4 h4 a5 h5 a6 h6 hc x0 x1 x2 n a)]
  unfold kernelRun0_B
  dsimp only
  sl_unfold_words
  rw [View.canon_unit_zero off3]
  simp only [View.readAt_eq_ld, h1.read_unread, h5.read_unread, h6.read_unread,
    View.ld_unit_zero (S := S3x4096) off2, View.ld_unit_zero (S := S256x1024) off2]
  rfl

/-- At a point that fills the tables, scratch 0 is left at the transposed node block. -/
theorem nodes_A (c : Dev nD) (i : grid0.Coords) (a1 : Memref sig .tc .vmem S3x4096 .i32) (h1 : a1.IsWhole)
    (a2 : Memref sig .tc .vmem S1024x256 .f32) (h2 : a2.IsWhole) (a3 : Memref sig .tc .vmem S1000x128 .f32) (h3 : a3.IsWhole)
    (a4 : Memref sig .tc .vmem S1x1x4096 .f32) (h4 : a4.IsWhole) (a5 : Memref sig .tc .vmem S256x1024 .fp8e4m3) (h5 : a5.IsWhole)
    (a6 : Memref sig .tc .vmem S256x1024 .fp8e4m3) (h6 : a6.IsWhole) (hc : cond0_0 i)
    (x0 : Vec F S3x4096 .i32) (x1 : Vec F S1024x256 .f32) (x2 : Vec F S1000x128 .f32) :
    sout0_A_0 c i a1 h1 a2 h2 a3 h3 a4 h4 a5 h5 a6 h6 hc x0 x1 x2 = k0_pay2 x1 := by
  unfold sout0_A_0
  rw [View.read_writes_eq_canon _ _ _ (scover0_A_0 c i a1 h1 a2 h2 a3 h3 a4 h4 a5 h5 a6 h6 hc x0 x1 x2)]
  unfold kernelRun0_A
  dsimp only
  sl_unfold_words
  rw [View.canon_unit_zero off2]
  simp only [View.readAt_eq_ld, h2.read_unread, View.ld_unit_zero (S := S1024x256) off2]

/-- At a point that fills the tables, scratch 1 is left at the transposed table of cosines and sines. -/
theorem angles_A (c : Dev nD) (i : grid0.Coords) (a1 : Memref sig .tc .vmem S3x4096 .i32) (h1 : a1.IsWhole)
    (a2 : Memref sig .tc .vmem S1024x256 .f32) (h2 : a2.IsWhole) (a3 : Memref sig .tc .vmem S1000x128 .f32) (h3 : a3.IsWhole)
    (a4 : Memref sig .tc .vmem S1x1x4096 .f32) (h4 : a4.IsWhole) (a5 : Memref sig .tc .vmem S256x1024 .fp8e4m3) (h5 : a5.IsWhole)
    (a6 : Memref sig .tc .vmem S256x1024 .fp8e4m3) (h6 : a6.IsWhole) (hc : cond0_0 i)
    (x0 : Vec F S3x4096 .i32) (x1 : Vec F S1024x256 .f32) (x2 : Vec F S1000x128 .f32) :
    sout0_A_1 c i a1 h1 a2 h2 a3 h3 a4 h4 a5 h5 a6 h6 hc x0 x1 x2 = k0_pay3 x2 := by
  unfold sout0_A_1
  rw [View.read_writes_eq_canon _ _ _ (scover0_A_1 c i a1 h1 a2 h2 a3 h3 a4 h4 a5 h5 a6 h6 hc x0 x1 x2)]
  unfold kernelRun0_A
  dsimp only
  sl_unfold_words
  rw [View.canon_unit_zero off2]
  simp only [View.readAt_eq_ld, h3.read_unread, View.ld_unit_zero (S := S1000x128) off2]

/-- At a point that fills the tables, the stored block is the scores from the tables just filled. -/
theorem out_A (c : Dev nD) (i : grid0.Coords) (a1 : Memref sig .tc .vmem S3x4096 .i32) (h1 : a1.IsWhole)
    (a2 : Memref sig .tc .vmem S1024x256 .f32) (h2 : a2.IsWhole) (a3 : Memref sig .tc .vmem S1000x128 .f32) (h3 : a3.IsWhole)
    (a4 : Memref sig .tc .vmem S1x1x4096 .f32) (h4 : a4.IsWhole) (a5 : Memref sig .tc .vmem S256x1024 .fp8e4m3) (h5 : a5.IsWhole)
    (a6 : Memref sig .tc .vmem S256x1024 .fp8e4m3) (h6 : a6.IsWhole) (hc : cond0_0 i)
    (x0 : Vec F S3x4096 .i32) (x1 : Vec F S1024x256 .f32) (x2 : Vec F S1000x128 .f32) :
    out0_A_3 c i a1 h1 a2 h2 a3 h3 a4 h4 a5 h5 a6 h6 hc x0 x1 x2 = scores x0 (k0_pay2 x1) (k0_pay3 x2) := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero off3]
  simp only [View.readCov_unit_zero (S := S256x1024) _ off2]
  simp only [View.readAt_eq_ld, h1.read_unread, h2.read_unread, h3.read_unread,
    View.ld_unit_zero (S := S3x4096) off2, View.ld_unit_zero (S := S1024x256) off2, View.ld_unit_zero (S := S1000x128) off2]
  rfl

/-- The first grid point. -/
abbrev first : Fin cfg0.N := ⟨0, by rw [show cfg0.N = 4 from N_0]; decide⟩

/-- After every point the two tables hold what the first point put there. -/
theorem tables (c : Dev nD) : ∀ (n : ℕ) (h : n < cfg0.N),
    (outsAt0 m c n h).2 = (k0_pay2 (X0_1 m c first), k0_pay3 (iblk m c 2 first))
  | 0, h => by
    rw [show outsAt0 m c 0 h = _ from outsAt0_A m c ⟨0, h⟩ rfl, nodes_A, angles_A]
  | n + 1, h => by
    have hN : cfg0.N = 4 := N_0
    have hB : ¬(⟨n + 1, h⟩ : Fin cfg0.N).val % 4 = 0 := by dsimp only; omega
    rw [show outsAt0 m c (n + 1) h = _ from outsAt0_B m c ⟨n + 1, h⟩ hB]
    have ih := tables c n (Nat.lt_of_succ_lt h)
    unfold sout0_B_0 sout0_B_1
    exact ih

/-- The block every point stores: the scores of its ids from the first point's tables. -/
theorem stored (c : Dev nD) (t : Fin cfg0.N) :
    (outsAt0 m c t.val t.isLt).1 = scores (iblk m c 0 t) (k0_pay2 (X0_1 m c first)) (k0_pay3 (iblk m c 2 first)) := by
  have hN : cfg0.N = 4 := N_0
  by_cases h0 : t.val % 4 = 0
  · have ht : t = first := Fin.ext (by have := t.isLt; show t.val = 0; omega)
    subst ht
    rw [outsAt0_A m c first h0, out_A]
  · rw [outsAt0_B m c t h0, out_B]
    have h := tables m c (t.val - 1) (Nat.lt_of_le_of_lt (Nat.sub_le _ _) t.isLt)
    rw [h]

end Cert.KernelIdeal.Scores

end
-- ==== Proof.Array.lean ====
/-
  What the kernel's result holds at the end, for any float values: the blocks the windows read, in terms of the
  arguments; the region's array as the four stored blocks; and the run of the whole program, its last reshape included.
-/
module

public import proofs.«01_k».proof.Proof.Block
public import Idealize.ShloMosaic.Lib.ValueIdxCore
public import Idealize.ShloMosaic.Lib.StableHlo.Run

@[expose] public section

set_option maxRecDepth 16384

noncomputable section

namespace Cert.KernelIdeal.Scores

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The block of ids of grid point `t`: column `j` is triplet `4096 t + j`, row `k` its component `k`. -/
def idBlock (x : (⟨2, ![16384, 3]⟩ : Shape).Idx → Elt F .i32) (t : Fin 4) : Vec F S3x4096 .i32 := fun j =>
  x (ix2 ⟨4096 * t.val + (j 1).val, by have := t.isLt; have : (j 1).val < 4096 := (j 1).isLt; omega⟩ ⟨(j 0).val, (j 0).isLt⟩)

/-- The first 1024 rows of the node table. -/
def nodeBlock (x : (⟨2, ![100000, 256]⟩ : Shape).Idx → Elt F .f32) : Vec F S1024x256 .f32 := fun j =>
  x (ix2 ⟨(j 0).val, by have : (j 0).val < 1024 := (j 0).isLt; omega⟩ ⟨(j 1).val, (j 1).isLt⟩)

/-- The region finds the transposed triplets in the first window's array. -/
theorem V_main_v0 (c : Dev nD) :
    V m c main_v0 = (transpose S3x16384 [1, 0] (m ((c : Thread nD τ).loc main_arg2)) transposes_S16384x3_S3x16384_1_0 :
      (⟨S3x16384, .i32⟩ : BufTy).Contents (Elt F)) := by
  show StableHlo.after hostOps0 (fun b => m (c, b)) (Proc.devRef .tc main_v0) = _
  after_results

/-- The first window's block at a point is that point's block of ids. -/
theorem ids_read (c : Dev nD) (t : Fin cfg0.N) :
    (iblk m c 0 t : Vec F S3x4096 .i32) = idBlock (m ((c : Thread nD τ).loc main_arg2)) (t.cast N_0) := by
  have hi : win0_0.index t 0 = 0 ∧ win0_0.index t 1 = t.val := by
    rcases fin_N0 t with rfl | rfl | rfl | rfl <;> decide
  funext j
  unfold iblk
  rw [View.read_apply]
  show V m c main_v0 _ = _
  rw [V_main_v0]
  refine transpose_apply _ _ _ _ _ fun b => ?_
  match b with
  | ⟨0, _⟩ => show (j 0).val = win0_0.index t 0 * 3 + 1 * (j 0).val; rw [hi.1]; omega
  | ⟨1, _⟩ => show 4096 * t.val + (j 1).val = win0_0.index t 1 * 4096 + 1 * (j 1).val; rw [hi.2]; omega

/-- The second window's block at a point is the first 1024 rows of the node table. -/
theorem nodes_read (c : Dev nD) (t : Fin cfg0.N) :
    (X0_1 m c t : Vec F S1024x256 .f32) = nodeBlock (m ((c : Thread nD τ).loc main_arg0)) := by
  have hi : win0_1.index t 0 = 0 ∧ win0_1.index t 1 = 0 := by
    rcases fin_N0 t with rfl | rfl | rfl | rfl <;> decide
  funext j
  unfold X0_1 Pipeline.Window.fill
  rw [dif_pos (moved0_1 t j)]
  unfold iblk
  rw [View.read_apply]
  show V m c main_arg0 _ = _
  rw [V_main_arg0]
  unfold nodeBlock
  congr 1
  funext a
  apply Fin.ext
  match a with
  | ⟨0, _⟩ => show win0_1.index t 0 * 1024 + 1 * (j 0).val = (j 0).val; rw [hi.1]; omega
  | ⟨1, _⟩ => show win0_1.index t 1 * 256 + 1 * (j 1).val = (j 1).val; rw [hi.2]; omega

/-- The third window's block at a point is the whole relation table. -/
theorem rels_read (c : Dev nD) (t : Fin cfg0.N) :
    (iblk m c 2 t : Vec F S1000x128 .f32) = m ((c : Thread nD τ).loc main_arg1) := by
  have hi : win0_2.index t 0 = 0 ∧ win0_2.index t 1 = 0 := by
    rcases fin_N0 t with rfl | rfl | rfl | rfl <;> decide
  funext j
  unfold iblk
  rw [View.read_apply]
  show V m c main_arg1 _ = _
  rw [V_main_arg1]
  congr 1
  funext a
  apply Fin.ext
  match a with
  | ⟨0, _⟩ => show win0_2.index t 0 * 1000 + 1 * (j 0).val = (j 0).val; rw [hi.1]; omega
  | ⟨1, _⟩ => show win0_2.index t 1 * 128 + 1 * (j 1).val = (j 1).val; rw [hi.2]; omega

/-- The block of scores of grid point `t`, from the arguments. -/
def blockScores (x0 : (⟨2, ![100000, 256]⟩ : Shape).Idx → Elt F .f32) (x1 : Vec F S1000x128 .f32)
    (x2 : (⟨2, ![16384, 3]⟩ : Shape).Idx → Elt F .i32) (t : Fin 4) : FVec F S1x1x4096 .f32 :=
  scores (idBlock (F := F) x2 t) (k0_pay2 (nodeBlock (F := F) x0)) (k0_pay3 x1)

/-- The block a point stores, from the arguments. -/
theorem stored_eq (c : Dev nD) (t : Fin cfg0.N) :
    (outsAt0 m c t.val t.isLt).1 = blockScores (m ((c : Thread nD τ).loc main_arg0)) (m ((c : Thread nD τ).loc main_arg1))
      (m ((c : Thread nD τ).loc main_arg2)) (t.cast N_0) := by
  rw [stored, ids_read, nodes_read, rels_read]
  rfl

/-- The region's array: row `t` is the block of scores of grid point `t`. -/
def regionArray (c : Dev nD) : Buf (Elt F) ((c : Thread nD τ).loc main_v1) := fun i =>
  blockScores (m ((c : Thread nD τ).loc main_arg0)) (m ((c : Thread nD τ).loc main_arg1))
    (m ((c : Thread nD τ).loc main_arg2)) ⟨(i 0).val, (i 0).isLt⟩ (ix3 (0 : Fin 1) (0 : Fin 1) ⟨(i 2).val, (i 2).isLt⟩)

/-- Each write-back writes that array's block. -/
theorem flushed_eq (c : Dev nD) (t : Fin cfg0.N) (hf : (cfg0.win 3).flush t = true) :
    (dats m 0 c).flushed 3 t = ((cfg0.win 3).blk t).view.read (Elt F) (regionArray m c) := by
  have hi : win0_3.index t 0 = t.val ∧ win0_3.index t 1 = 0 ∧ win0_3.index t 2 = 0 := by
    rcases fin_N0 t with rfl | rfl | rfl | rfl <;> decide
  show (cfg0.win 3).cut (grid0.coords t) ((dats m 0 c).after 3 t) = _
  rw [after0_3, stored_eq]
  funext j
  rw [View.read_apply]
  show blockScores _ _ _ (t.cast N_0) _ = blockScores _ _ _ _ _
  have h0 : (j 0).val < 1 := (j 0).isLt
  have h1 : (j 1).val < 1 := (j 1).isLt
  congr 1
  · apply Fin.ext
    show t.val = win0_3.index t 0 * 1 + 1 * (j 0).val
    rw [hi.1]; omega
  · funext a
    apply Fin.ext
    match a with
    | ⟨0, _⟩ => show (j 0).val = 0; omega
    | ⟨1, _⟩ => show (j 1).val = 0; omega
    | ⟨2, _⟩ => show (j 2).val = win0_3.index t 2 * 4096 + 1 * (j 2).val; rw [hi.2.2]; omega

/-- So the region's array ends holding it: the four blocks cover the array. -/
theorem array_eq (c : Dev nD) : (dats m 0 c).arrAt 3 cfg0.N = regionArray m c :=
  (dats m 0 c).arrAt_eq_of_cover 3 (regionArray m c) (flushed_eq m c) fun i => by
    have g0 : (i 0 : Nat) < 4 := (i 0).isLt
    have g1 : (i 1 : Nat) < 1 := (i 1).isLt
    have g2 : (i 2 : Nat) < 4096 := (i 2).isLt
    let t : Fin cfg0.N := ⟨(i 0).val, by rw [show cfg0.N = 4 from N_0]; exact g0⟩
    have hi : ∀ t : Fin cfg0.N, win0_3.index t 0 = t.val ∧ win0_3.index t 1 = 0 ∧ win0_3.index t 2 = 0 := fun t => by
      rcases fin_N0 t with rfl | rfl | rfl | rfl <;> decide
    refine ⟨t, flush0_3 t, ?_⟩
    show i ∈ ((View.whole main_v1).slice (win0_3.rect t)).set
    rw [View.set_slice_whole, Rect.mem_set_unit]
    intro a
    match a with
    | ⟨0, _⟩ =>
      show win0_3.index t 0 * 1 ≤ (i 0 : Nat) ∧ (i 0 : Nat) < win0_3.index t 0 * 1 + 1
      rw [(hi t).1]; show (i 0).val * 1 ≤ _ ∧ _ < (i 0).val * 1 + 1; omega
    | ⟨1, _⟩ =>
      show win0_3.index t 1 * 1 ≤ (i 1 : Nat) ∧ (i 1 : Nat) < win0_3.index t 1 * 1 + 1
      rw [(hi t).2.1]; omega
    | ⟨2, _⟩ =>
      show win0_3.index t 2 * 4096 ≤ (i 2 : Nat) ∧ (i 2 : Nat) < win0_3.index t 2 * 4096 + 4096
      rw [(hi t).2.2]; omega

/-- The kernel's result: the region's array reshaped to one axis. -/
def result (c : Dev nD) : Buf (Elt F) ((c : Thread nD τ).loc main_v2) :=
  (shapeCast S16384 (regionArray m c) shapeCasts_S4x1x4096_S16384 : (⟨S16384, .f32⟩ : BufTy).Contents (Elt F))

/-- The reshape after the region leaves the result there. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  simp only [StableHlo.after_cons, StableHlo.after_nil]
  rw [StableHlo.reshape_result]
  have h : Pipeline.withArrays (cfgs 0).spec c (V0 m c) (fun w => (dats m 0 c).arrAt w (cfgs 0).N)
      (Proc.devRef .tc main_v1) = regionArray m c :=
    (Pipeline.withArrays_arr (cfgs 0).spec launch0.win.arr_inj c (V0 m c) _ 3).trans (array_eq m c)
  rw [h]
  rfl

/-- The run of the whole program: the result is as computed and the arguments end as they began. -/
theorem run : θ_run defs (onTc (τ := τ) (main (F := F))) ⟨m, fun _ => 0, ρ⟩ fun r =>
      (∀ c : Dev nD, r.2.mem ((c : Thread nD τ).loc main_v2) = result m c)
      ∧ (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  θ_run_and ((θ_run defs _ _).mono (fun _ h c =>
    ((h c).2 main_v2 (Pipeline.mem_restRefs_of main_v2 (by decide) (by decide))).trans (tail_eq m c)) (run_main m ρ))
    (unchanged m ρ)

end Cert.KernelIdeal.Scores

end
-- ==== Proof.Formula.lean ====
/-
  The score of one triplet as a formula over the extended reals, stated once for the kernel and the reference: the head
  row is turned by the relation's angles, the tail row subtracted, the lengths of the 128 complex differences summed and
  the sum taken from 12.
-/
module

public import Idealize.ShloMosaic.Lib.ValueIdxCore
public import Idealize.ShloMosaic.PureOps.Ideal.Laws

@[expose] public section

noncomputable section

namespace Cert.RotateScore

open Idealize.ShloMosaic Idealize.ShloMosaic.ValueIdx

/-- The length of `(a + bi)·(c + si) − (e + fi)`. -/
def length (a b c s e f : EReal) : EReal :=
  Ideal.sqrt ((a * c - b * s - e) * (a * c - b * s - e) + (a * s + b * c - f) * (a * s + b * c - f))

/-- Column `d` of the first half of a row of 256. -/
def lower (d : Fin 128) : Fin 256 := ⟨d.val, by omega⟩
/-- Column `d` of the second half of a row of 256. -/
def upper (d : Fin 128) : Fin 256 := ⟨128 + d.val, by omega⟩

/-- A row number below 1000 as a row of the node table. -/
def node (k : Fin 1000) : Fin 100000 := ⟨k.val, by omega⟩

/-- The score of head `h`, relation `r` and tail `t`, from the node table (real parts in the first half of a row, imaginary
    parts in the second) and the table of relation angles. -/
def score (nodes : (⟨2, ![100000, 256]⟩ : Shape).Idx → EReal) (rels : (⟨2, ![1000, 128]⟩ : Shape).Idx → EReal)
    (h r t : Fin 1000) : EReal :=
  Ideal.ofBits .f32 0x41400000#32
    - ∑ d : Fin 128, length (nodes (ix2 (node h) (lower d))) (nodes (ix2 (node h) (upper d)))
        (Ideal.cos (rels (ix2 r d))) (Ideal.sin (rels (ix2 r d)))
        (nodes (ix2 (node t) (lower d))) (nodes (ix2 (node t) (upper d)))

end Cert.RotateScore

end
-- ==== Proof.Score.lean ====
/-
  One element of the block of scores a grid point stores, over the extended reals: multiplying a table by a one-hot
  matrix picks the table's column at the id, so each stored score is the score formula of the triplet's three ids.
-/
module

public import proofs.«01_k».proof.Proof.Array
public import proofs.«01_k».proof.Proof.Formula
public import Idealize.ShloMosaic.Lib.MatmulPlain
public import Idealize.ShloMosaic.Lib.IdealHost
public import Idealize.ShloMosaic.Lib.WordCmp

@[expose] public section

set_option maxRecDepth 16384

noncomputable section

namespace Cert.KernelIdeal.Scores

open Cert.KernelIdeal Cert.KernelIdeal.Gen Cert.RotateScore
open Idealize.ShloMosaic Idealize.ShloMosaic.ValueIdx
open scoped BigOperators

/-! ## The one-hot matrices -/

/-- The one-hot matrix of row `o` of a block of ids: column `j` holds one at the row the id of triplet `j` names. -/
def hot (o : Nat) (hs : S3x4096.Slices ![o, 0] S1x4096) (ids : Vec Ideal S3x4096 .i32) : FVec Ideal S1024x4096 .fp8e4m3 :=
  truncf .fp8e4m3
    (select
      (cmpi .eq
        (broadcastTo S1024x4096
          (shapeCast S1x4096 (shapeCast S4096 (extractStridedSlice S1x4096 ![o, 0] (k0_pay4 ids) hs) shapeCasts_S1x4096_S4096)
            shapeCasts_S4096_S1x4096)
          broadcasts_S1x4096_S1024x4096)
        (iota .tc S1024x4096 16 [0] iota_S1024x4096_d0_w16))
      (broadcast S1024x4096 (Scalar.ofBits .bf16 0x3F80#16)) (broadcast S1024x4096 (Scalar.ofBits .bf16 0x0000#16)))
    bitsLt_fp8e4m3_bf16

/-- The row of narrowed ids, spread down the rows, at `(k, j)`. -/
theorem spread_apply (o : Fin 3) (hs : S3x4096.Slices ![o.val, 0] S1x4096) (ids : Vec Ideal S3x4096 .i32) (k : Fin 1024)
    (j : Fin 4096) :
    broadcastTo S1024x4096
      (shapeCast S1x4096 (shapeCast S4096 (extractStridedSlice S1x4096 ![o.val, 0] (k0_pay4 ids) hs) shapeCasts_S1x4096_S4096)
        shapeCasts_S4096_S1x4096)
      broadcasts_S1x4096_S1024x4096 (ix2 k j) = (ids (ix2 o j)).setWidth 16 := by
  rw [broadcastTo_apply _ _ (ix2 k j) (ix2 (0 : Fin 1) j) (fun a => by
    match a with
    | ⟨0, _⟩ => rfl
    | ⟨1, _⟩ => rfl)]
  rw [shapeCast_apply _ _ (ix2 (0 : Fin 1) j) (ix1 j) (by
    rw [Shape.rowMajor_val_one, Shape.rowMajor_val_two]; show j.val = 0 * 4096 + j.val; omega)]
  rw [shapeCast_apply _ _ (ix1 j) (ix2 (0 : Fin 1) j) (by
    rw [Shape.rowMajor_val_one, Shape.rowMajor_val_two]; show 0 * 4096 + j.val = j.val; omega)]
  rw [extractStridedSlice_apply _ _ _ (ix2 (0 : Fin 1) j) (ix2 o j) (fun a => by
    match a with
    | ⟨0, _⟩ => rfl
    | ⟨1, _⟩ => show j.val = 0 + j.val; omega)]
  unfold k0_pay4
  rw [shapeCast_self]
  rfl

/-- An element of a one-hot matrix: one where the row number is the id, zero elsewhere. -/
theorem hot_apply (o : Fin 3) (hs : S3x4096.Slices ![o.val, 0] S1x4096) (ids : Vec Ideal S3x4096 .i32) (j : Fin 4096)
    (r : Fin 1024) (hr : ids (ix2 o j) = BitVec.ofNat 32 r.val) (k : Fin 1024) :
    hot o.val hs ids (ix2 k j) = if k = r then (1 : EReal) else 0 := by
  unfold hot
  show Scalar.select (IntOp.cmpi .eq _ _) (Ideal.ofBits .bf16 0x3F80#16) (Ideal.ofBits .bf16 0x0000#16) = _
  rw [spread_apply, iota_single_apply, WordCmp.cmpi_eq_eq_toNat, Ideal.ofBits_one_bf16]
  have h0 : Ideal.ofBits .bf16 0x0000#16 = 0 := by simp [Ideal.ofBits, Ideal.ieee]
  rw [h0, hr]
  have e1 : ((BitVec.ofNat 32 r.val).setWidth 16).toNat = r.val := by
    have := r.isLt
    rw [BitVec.toNat_setWidth, BitVec.toNat_ofNat, Nat.mod_eq_of_lt (by omega), Nat.mod_eq_of_lt (by omega)]
  have e2 : (BitVec.ofNat 16 ((ix2 k j : S1024x4096.Idx) 0).val).toNat = k.val := by
    have := k.isLt
    show (BitVec.ofNat 16 k.val).toNat = k.val
    rw [BitVec.toNat_ofNat, Nat.mod_eq_of_lt (by omega)]
  rw [e1, e2]
  by_cases h : k = r
  · subst h; simp [Scalar.select]
  · rw [if_neg h, decide_eq_false (fun e => h (Fin.ext e.symm))]; simp [Scalar.select]

/-- A table times a one-hot matrix, as the kernel multiplies them. -/
def times (tbl : Vec Ideal S256x1024 .fp8e4m3) (v : FVec Ideal S1024x4096 .fp8e4m3) : FVec Ideal S256x4096 .f32 :=
  matmul (φ₁ := .fp8e4m3) dot_S256x1024_S1024x4096_S256x4096_1_0_0_1_n_n none tbl v (constant S256x4096 .f32 0x00000000#32)

/-- A table times a one-hot matrix is the table's column at the id. -/
theorem pick (o : Fin 3) (hs : S3x4096.Slices ![o.val, 0] S1x4096) (ids : Vec Ideal S3x4096 .i32)
    (tbl : Vec Ideal S256x1024 .fp8e4m3) (j : Fin 4096) (r : Fin 1024) (hr : ids (ix2 o j) = BitVec.ofNat 32 r.val)
    (d : Fin 256) :
    times tbl (hot o.val hs ids) (ix2 d j) = tbl (ix2 d r) := by
  show FloatOps.matmul (φ₁ := .fp8e4m3) (DotDims.plain 256 1024 4096) none tbl (hot o.val hs ids) (constant S256x4096 .f32 0x00000000#32)
    (ix2 d j) = _
  rw [Ideal.matmul_plain_apply]
  show Ideal.ofBits .f32 0x00000000#32 + _ = _
  rw [Ideal.ofBits_zero_f32, zero_add]
  rw [Finset.sum_congr rfl fun k _ => by rw [hot_apply o hs ids j r hr k]]
  simp

/-! ## The two tables -/

/-- A transposed, narrowed table at row `d`, column `k`: narrowing changes no ideal value. -/
theorem transposed_apply (x : FVec Ideal S1024x256 .f32) (d : Fin 256) (k : Fin 1024) :
    (truncf .fp8e4m3 (transpose S256x1024 [1, 0] x transposes_S1024x256_p1_0_S256x1024) bitsLt_fp8e4m3_f32 (ix2 d k) : EReal)
      = x (ix2 k d) :=
  transpose_apply (α := EReal) _ x transposes_S1024x256_p1_0_S256x1024 (ix2 d k) (ix2 k d)
    (fun b => by match b with | ⟨0, _⟩ => rfl | ⟨1, _⟩ => rfl)

/-- The transposed node table at column `k`, row `d`. -/
theorem nodes_apply (x : FVec Ideal S1024x256 .f32) (d : Fin 256) (k : Fin 1024) :
    (k0_pay2 (F := Ideal) x (ix2 d k) : EReal) = x (ix2 k d) := by
  unfold k0_pay2
  dsimp only
  rw [shapeCast_self]
  exact transposed_apply x d k

/-- A row of the table of angles before it is transposed, at a relation's row: the cosines and sines side by side. -/
theorem angles_row (x : FVec Ideal S1000x128 .f32) (d : Fin 256) (k : Fin 1000) :
    (k0_pay3 (F := Ideal) x (ix2 d (⟨k.val, by omega⟩ : Fin 1024)) : EReal)
      = concatenate S1000x256 1 [⟨S1000x128, cos x⟩, ⟨S1000x128, sin x⟩] concatenates_S1000x128_S1000x128_S1000x256_d1
          (ix2 k d) := by
  unfold k0_pay3
  dsimp only
  rw [shapeCast_self]
  refine (transposed_apply _ d _).trans ?_
  exact concatenate_pair_apply_left 0 _ _ concatenates_S1000x256_S24x256_S1024x256_d0 _ rfl (ix2 k d)
    (fun b => by match b with | ⟨0, _⟩ => rfl | ⟨1, _⟩ => rfl)

/-- The first half of a column of the transposed table of angles holds the relation's cosines. -/
theorem angles_cos (x : FVec Ideal S1000x128 .f32) (d : Fin 128) (k : Fin 1000) :
    (k0_pay3 (F := Ideal) x (ix2 (lower d) (⟨k.val, by omega⟩ : Fin 1024)) : EReal) = Ideal.cos (x (ix2 k d)) := by
  rw [angles_row]
  exact concatenate_pair_apply_left 1 _ _ concatenates_S1000x128_S1000x128_S1000x256_d1 _ rfl (ix2 k d)
    (fun b => by match b with | ⟨0, _⟩ => rfl | ⟨1, _⟩ => rfl)

/-- The second half holds its sines. -/
theorem angles_sin (x : FVec Ideal S1000x128 .f32) (d : Fin 128) (k : Fin 1000) :
    (k0_pay3 (F := Ideal) x (ix2 (upper d) (⟨k.val, by omega⟩ : Fin 1024)) : EReal) = Ideal.sin (x (ix2 k d)) := by
  rw [angles_row]
  exact concatenate_pair_apply_right 1 _ _ concatenates_S1000x128_S1000x128_S1000x256_d1 _ rfl rfl (ix2 k d)
    (fun b hb => by match b with | ⟨0, _⟩ => rfl | ⟨1, _⟩ => exact absurd rfl hb)
    (by show d.val + 128 = 128 + d.val; omega)

/-! ## The stored score -/

/-- The first half of a picked column. -/
theorem slice_lower (v : FVec Ideal S256x4096 .f32) (d : Fin 128) (j : Fin 4096) :
    extractStridedSlice S128x4096 ![0, 0] v slices_S256x4096_o0_0_S128x4096 (ix2 d j) = v (ix2 (lower d) j) :=
  extractStridedSlice_apply _ v _ (ix2 d j) (ix2 (lower d) j) (fun a => by
    match a with
    | ⟨0, _⟩ => show d.val = 0 + d.val; omega
    | ⟨1, _⟩ => show j.val = 0 + j.val; omega)

/-- The second half of a picked column. -/
theorem slice_upper (v : FVec Ideal S256x4096 .f32) (d : Fin 128) (j : Fin 4096) :
    extractStridedSlice S128x4096 ![128, 0] v slices_S256x4096_o128_0_S128x4096 (ix2 d j) = v (ix2 (upper d) j) :=
  extractStridedSlice_apply _ v _ (ix2 d j) (ix2 (upper d) j) (fun a => by
    match a with
    | ⟨0, _⟩ => rfl
    | ⟨1, _⟩ => show j.val = 0 + j.val; omega)

/-- The last step at triplet `j`: 12 less the summed lengths of the differences of the picked columns. -/
theorem last_apply (rel : FVec Ideal S1024x4096 .fp8e4m3) (hd tl : FVec Ideal S256x4096 .f32)
    (tbl : Vec Ideal S256x1024 .fp8e4m3) (j : Fin 4096) (a b e f c s : Fin 128 → EReal)
    (ha : ∀ d, hd (ix2 (lower d) j) = a d) (hb : ∀ d, hd (ix2 (upper d) j) = b d)
    (he : ∀ d, tl (ix2 (lower d) j) = e d) (hf : ∀ d, tl (ix2 (upper d) j) = f d)
    (hc : ∀ d, times tbl rel (ix2 (lower d) j) = c d)
    (hs : ∀ d, times tbl rel (ix2 (upper d) j) = s d) :
    k0_pay1 rel hd tl tbl (constant S256x4096 .f32 0x00000000#32) (ix3 (0 : Fin 1) (0 : Fin 1) j)
      = Ideal.ofBits .f32 0x41400000#32 - ∑ d : Fin 128, length (a d) (b d) (c d) (s d) (e d) (f d) := by
  unfold k0_pay1
  rw [shapeCast_apply _ _ (ix3 (0 : Fin 1) (0 : Fin 1) j) (ix2 (0 : Fin 1) j) (by
    rw [Shape.rowMajor_val_three, Shape.rowMajor_val_two]; show 0 * 4096 + j.val = (0 * 1 + 0) * 4096 + j.val; omega)]
  show Ideal.ofBits .f32 0x41400000#32 - FloatOps.matmul (DotDims.plain 1 128 4096) none _ _ (constant S1x4096 .f32 0x00000000#32)
    (ix2 (0 : Fin 1) j) = _
  rw [Ideal.matmul_plain_apply]
  show _ - (Ideal.ofBits .f32 0x00000000#32 + _) = _
  rw [Ideal.ofBits_zero_f32, zero_add]
  refine congrArg (_ - ·) (Finset.sum_congr rfl fun d _ => ?_)
  show Ideal.ofBits .bf16 0x3F80#16 * _ = _
  rw [Ideal.ofBits_one_bf16, one_mul]
  change Ideal.sqrt _ = _
  rw [← (slice_lower hd d j).trans (ha d), ← (slice_upper hd d j).trans (hb d), ← (slice_lower tl d j).trans (he d),
    ← (slice_upper tl d j).trans (hf d), ← (slice_lower (times tbl rel) d j).trans (hc d),
    ← (slice_upper (times tbl rel) d j).trans (hs d)]
  rfl

/-- The stored score of triplet `j` of block `t` is the score formula of its three ids. -/
theorem blockScores_apply (x0 : Vec Ideal S100000x256 .f32) (x1 : Vec Ideal S1000x128 .f32) (x2 : Vec Ideal S16384x3 .i32)
    (t : Fin 4) (j : Fin 4096) (i : Fin 16384) (hi : i.val = 4096 * t.val + j.val) (h r q : Fin 1000)
    (hh : x2 (ix2 i (0 : Fin 3)) = BitVec.ofNat 32 h.val) (hr : x2 (ix2 i (1 : Fin 3)) = BitVec.ofNat 32 r.val)
    (hq : x2 (ix2 i (2 : Fin 3)) = BitVec.ofNat 32 q.val) :
    blockScores x0 x1 x2 t (ix3 (0 : Fin 1) (0 : Fin 1) j) = score x0 x1 h r q := by
  have hid : ∀ o : Fin 3, idBlock x2 t (ix2 o j) = x2 (ix2 i o) := fun o =>
    congrArg x2 (funext fun a => Fin.ext (by match a with | ⟨0, _⟩ => exact hi.symm | ⟨1, _⟩ => rfl))
  unfold blockScores scores score
  refine last_apply _ _ _ _ j _ _ _ _ _ _ ?_ ?_ ?_ ?_ ?_ ?_ <;> intro d
  · exact (pick 0 slices_S3x4096_o0_0_S1x4096 _ _ j ⟨h.val, by omega⟩ ((hid 0).trans hh) _).trans (nodes_apply _ _ _)
  · exact (pick 0 slices_S3x4096_o0_0_S1x4096 _ _ j ⟨h.val, by omega⟩ ((hid 0).trans hh) _).trans (nodes_apply _ _ _)
  · exact (pick 2 slices_S3x4096_o2_0_S1x4096 _ _ j ⟨q.val, by omega⟩ ((hid 2).trans hq) _).trans (nodes_apply _ _ _)
  · exact (pick 2 slices_S3x4096_o2_0_S1x4096 _ _ j ⟨q.val, by omega⟩ ((hid 2).trans hq) _).trans (nodes_apply _ _ _)
  · exact (pick 1 slices_S3x4096_o1_0_S1x4096 _ _ j ⟨r.val, by omega⟩ ((hid 1).trans hr) _).trans (angles_cos _ _ _)
  · exact (pick 1 slices_S3x4096_o1_0_S1x4096 _ _ j ⟨r.val, by omega⟩ ((hid 1).trans hr) _).trans (angles_sin _ _ _)

end Cert.KernelIdeal.Scores

end
-- ==== Proof.Reference.lean ====
/-
  What the reference computes on ids in range: each of its three row lookups reads the row the id names (no id is negative
  and none is past the table's end, so no wrap and no fill value), and its result at a triplet is the score formula of the
  triplet's three ids.
-/
module

public import proofs.«01_k».proof.Proof.Gen.ReferenceIdeal.Read
public import proofs.«01_k».proof.Proof.Formula
public import Idealize.ShloMosaic.Lib.Routing.Ops
public import Idealize.ShloMosaic.Lib.ReduceAll
public import Idealize.ShloMosaic.Lib.IdealHost
public import Idealize.ShloMosaic.Lib.WordCmp

@[expose] public section

set_option maxRecDepth 16384

noncomputable section

namespace Cert.ReferenceIdeal.Scores

open Cert.ReferenceIdeal Cert.ReferenceIdeal.Gen Cert.ReferenceIdeal.Read Cert.RotateScore
open Idealize.ShloMosaic Idealize.ShloMosaic.ValueIdx
open scoped BigOperators

/-! ## Comparisons of an id with the bounds of a lookup -/

/-- An id below 1000 is not negative. -/
theorem not_negative (k : Fin 1000) : IntOp.cmpi .slt (BitVec.ofNat 32 k.val) 0#32 = 0#1 :=
  (WordCmp.cmpi_slt_ofNat_eq_zero_iff (w := 32) (b := 0) (Nat.lt_trans k.isLt (by decide)) (by decide)).2 (Nat.not_lt_zero _)

/-- An id below 1000 passes the bounds check of a table whose last row is `b`, for `b` from 999 up. -/
theorem in_bounds (k : Fin 1000) (b : Nat) (hb : 999 ≤ b) (hb' : b < 2 ^ 31) :
    IntOp.andi (IntOp.cmpi .sge (BitVec.ofNat 32 k.val) 0#32) (IntOp.cmpi .sle (BitVec.ofNat 32 k.val) (BitVec.ofNat 32 b)) = 1#1 := by
  have h1 : IntOp.cmpi .sge (BitVec.ofNat 32 k.val) 0#32 = 1#1 :=
    (WordCmp.cmpi_sge_ofNat_eq_one_iff (w := 32) (b := 0) (Nat.lt_trans k.isLt (by decide)) (by decide)).2 (Nat.zero_le _)
  have h2 : IntOp.cmpi .sle (BitVec.ofNat 32 k.val) (BitVec.ofNat 32 b) = 1#1 :=
    (WordCmp.cmpi_sle_ofNat_eq_one_iff (w := 32) (Nat.lt_trans k.isLt (by decide)) hb').2
      (Nat.le_trans (Nat.le_of_lt_succ k.isLt) hb)
  rw [h1, h2]; rfl

variable (x0 : (⟨S100000x256, .f32⟩ : BufTy).Contents (Elt Ideal)) (x1 : (⟨S1000x128, .f32⟩ : BufTy).Contents (Elt Ideal))
  (x2 : (⟨S16384x3, .i32⟩ : BufTy).Contents (Elt Ideal)) (ids : Fin 16384 → Fin 3 → Fin 1000)

/-! ## The lookup of the head -/

/-- The heads: column 0 of the triplets. -/
theorem column0_apply (i : Fin 16384) : val_main_v1 (F := Ideal) x2 (ix1 i) = x2 (ix2 i (0 : Fin 3)) := by
  rw [val_main_v1_apply, val_main_v0_apply]
  exact congrArg x2 (funext fun a => Fin.ext (by match a with | ⟨0, _⟩ => exact Nat.div_one _ | ⟨1, _⟩ => rfl))

/-- The lookup's start indices are the ids themselves. -/
theorem start0_apply (hid : ∀ i o, x2 (ix2 i o) = BitVec.ofNat 32 (ids i o).val) (i : Fin 16384) :
    val_main_call0_v5 (F := Ideal) x2 (ix2 i (0 : Fin 1)) = BitVec.ofNat 32 (ids i 0).val := by
  rw [val_main_call0_v5_apply]
  rw [show idx_main_call0_v5 (ix2 i (0 : Fin 1)) = ix1 i from funext fun a => Fin.ext (by match a with | ⟨0, _⟩ => rfl)]
  rw [val_main_call0_v4_apply, val_main_call0_v1_apply, column0_apply, hid, val_main_call0_v0_apply,
    val_main_call0_c_apply, not_negative, select_zero]

/-- Every id of a head passes the lookup's bounds check. -/
theorem checked0_apply (hid : ∀ i o, x2 (ix2 i o) = BitVec.ofNat 32 (ids i o).val) (i : S16384.Idx) :
    val_main_call0_v12 (F := Ideal) x2 i = 1#1 := by
  unfold val_main_call0_v12
  have key (r : Fin 16384) : val_main_call0_v11 (F := Ideal) x2 (ix2 r (0 : Fin 1)) = 1#1 := by
    rw [val_main_call0_v11_apply, val_main_call0_v7_apply, val_main_call0_v10_apply, start0_apply x2 ids hid,
      val_main_call0_v6_apply, val_main_call0_c_2_apply, val_main_call0_v9_apply, val_main_call0_v8_apply,
      val_main_call0_c_1_apply]
    exact in_bounds (ids r 0) 99999 (by decide) (by decide)
  refine Host.reduce_andi_one _ _ _ _ i rfl fun (j : S16384x1.Idx) => ?_
  have hj : j = ix2 (j 0) (0 : Fin 1) :=
    (eq_ix2 j).trans (congrArg (ix2 (j 0)) (Subsingleton.elim (α := Fin 1) _ _))
  exact (congrArg _ hj).trans (key (j 0))

/-- The looked-up row of the head is the table's row at the id. -/
theorem row0_apply (hid : ∀ i o, x2 (ix2 i o) = BitVec.ofNat 32 (ids i o).val) (i : Fin 16384) (d : Fin 256) :
    val_main_v2 (F := Ideal) x0 x2 (ix2 i d) = x0 (ix2 (node (ids i 0)) d) := by
  rw [val_main_v2_apply, val_main_call0_v14_apply, checked0_apply x2 ids hid, select_one]
  unfold val_main_call0_v13
  exact Routing.gather_row gather_S100000x256_S16384x1_S16384x256_1_0_n_n_0_1_1256 rfl rfl rfl rfl rfl x0 _ i d (node (ids i 0))
    (start0_apply x2 ids hid i) (by decide)

/-! ## The lookup of the relation -/

/-- The relations: column 1 of the triplets. -/
theorem column1_apply (i : Fin 16384) : val_main_v4 (F := Ideal) x2 (ix1 i) = x2 (ix2 i (1 : Fin 3)) := by
  rw [val_main_v4_apply, val_main_v3_apply]
  exact congrArg x2 (funext fun a => Fin.ext (by match a with | ⟨0, _⟩ => exact Nat.div_one _ | ⟨1, _⟩ => rfl))

/-- The lookup's start indices are the ids themselves. -/
theorem start1_apply (hid : ∀ i o, x2 (ix2 i o) = BitVec.ofNat 32 (ids i o).val) (i : Fin 16384) :
    val_main_call1_v5 (F := Ideal) x2 (ix2 i (0 : Fin 1)) = BitVec.ofNat 32 (ids i 1).val := by
  rw [val_main_call1_v5_apply]
  rw [show idx_main_call1_v5 (ix2 i (0 : Fin 1)) = ix1 i from funext fun a => Fin.ext (by match a with | ⟨0, _⟩ => rfl)]
  rw [val_main_call1_v4_apply, val_main_call1_v1_apply, column1_apply, hid, val_main_call1_v0_apply,
    val_main_call1_c_apply, not_negative, select_zero]

/-- Every id of a relation passes the lookup's bounds check. -/
theorem checked1_apply (hid : ∀ i o, x2 (ix2 i o) = BitVec.ofNat 32 (ids i o).val) (i : S16384.Idx) :
    val_main_call1_v12 (F := Ideal) x2 i = 1#1 := by
  unfold val_main_call1_v12
  have key (r : Fin 16384) : val_main_call1_v11 (F := Ideal) x2 (ix2 r (0 : Fin 1)) = 1#1 := by
    rw [val_main_call1_v11_apply, val_main_call1_v7_apply, val_main_call1_v10_apply, start1_apply x2 ids hid,
      val_main_call1_v6_apply, val_main_call1_c_2_apply, val_main_call1_v9_apply, val_main_call1_v8_apply,
      val_main_call1_c_1_apply]
    exact in_bounds (ids r 1) 999 (by decide) (by decide)
  refine Host.reduce_andi_one _ _ _ _ i rfl fun (j : S16384x1.Idx) => ?_
  have hj : j = ix2 (j 0) (0 : Fin 1) :=
    (eq_ix2 j).trans (congrArg (ix2 (j 0)) (Subsingleton.elim (α := Fin 1) _ _))
  exact (congrArg _ hj).trans (key (j 0))

/-- The looked-up row of the relation is the table's row at the id. -/
theorem row1_apply (hid : ∀ i o, x2 (ix2 i o) = BitVec.ofNat 32 (ids i o).val) (i : Fin 16384) (d : Fin 128) :
    val_main_v5 (F := Ideal) x1 x2 (ix2 i d) = x1 (ix2 (ids i 1) d) := by
  rw [val_main_v5_apply, val_main_call1_v14_apply, checked1_apply x2 ids hid, select_one]
  unfold val_main_call1_v13
  exact Routing.gather_row gather_S1000x128_S16384x1_S16384x128_1_0_n_n_0_1_1128 rfl rfl rfl rfl rfl x1 _ i d (ids i 1)
    (start1_apply x2 ids hid i) (by decide)

/-! ## The lookup of the tail -/

/-- The tails: column 2 of the triplets. -/
theorem column2_apply (i : Fin 16384) : val_main_v7 (F := Ideal) x2 (ix1 i) = x2 (ix2 i (2 : Fin 3)) := by
  rw [val_main_v7_apply, val_main_v6_apply]
  exact congrArg x2 (funext fun a => Fin.ext (by match a with | ⟨0, _⟩ => exact Nat.div_one _ | ⟨1, _⟩ => rfl))

/-- The lookup's start indices are the ids themselves. -/
theorem start2_apply (hid : ∀ i o, x2 (ix2 i o) = BitVec.ofNat 32 (ids i o).val) (i : Fin 16384) :
    val_main_call2_v5 (F := Ideal) x2 (ix2 i (0 : Fin 1)) = BitVec.ofNat 32 (ids i 2).val := by
  rw [val_main_call2_v5_apply]
  rw [show idx_main_call2_v5 (ix2 i (0 : Fin 1)) = ix1 i from funext fun a => Fin.ext (by match a with | ⟨0, _⟩ => rfl)]
  rw [val_main_call2_v4_apply, val_main_call2_v1_apply, column2_apply, hid, val_main_call2_v0_apply,
    val_main_call2_c_apply, not_negative, select_zero]

/-- Every id of a tail passes the lookup's bounds check. -/
theorem checked2_apply (hid : ∀ i o, x2 (ix2 i o) = BitVec.ofNat 32 (ids i o).val) (i : S16384.Idx) :
    val_main_call2_v12 (F := Ideal) x2 i = 1#1 := by
  unfold val_main_call2_v12
  have key (r : Fin 16384) : val_main_call2_v11 (F := Ideal) x2 (ix2 r (0 : Fin 1)) = 1#1 := by
    rw [val_main_call2_v11_apply, val_main_call2_v7_apply, val_main_call2_v10_apply, start2_apply x2 ids hid,
      val_main_call2_v6_apply, val_main_call2_c_2_apply, val_main_call2_v9_apply, val_main_call2_v8_apply,
      val_main_call2_c_1_apply]
    exact in_bounds (ids r 2) 99999 (by decide) (by decide)
  refine Host.reduce_andi_one _ _ _ _ i rfl fun (j : S16384x1.Idx) => ?_
  have hj : j = ix2 (j 0) (0 : Fin 1) :=
    (eq_ix2 j).trans (congrArg (ix2 (j 0)) (Subsingleton.elim (α := Fin 1) _ _))
  exact (congrArg _ hj).trans (key (j 0))

/-- The looked-up row of the tail is the table's row at the id. -/
theorem row2_apply (hid : ∀ i o, x2 (ix2 i o) = BitVec.ofNat 32 (ids i o).val) (i : Fin 16384) (d : Fin 256) :
    val_main_v8 (F := Ideal) x0 x2 (ix2 i d) = x0 (ix2 (node (ids i 2)) d) := by
  rw [val_main_v8_apply, val_main_call2_v14_apply, checked2_apply x2 ids hid, select_one]
  unfold val_main_call2_v13
  exact Routing.gather_row gather_S100000x256_S16384x1_S16384x256_1_0_n_n_0_1_1256 rfl rfl rfl rfl rfl x0 _ i d (node (ids i 2))
    (start2_apply x2 ids hid i) (by decide)

/-! ## The score -/

section
variable (hid : ∀ i o, x2 (ix2 i o) = BitVec.ofNat 32 (ids i o).val)
include hid

/-- The real parts of the head row. -/
theorem head_re (i : Fin 16384) (d : Fin 128) :
    val_main_v9 (F := Ideal) x0 x2 (ix2 i d) = x0 (ix2 (node (ids i 0)) (lower d)) := by
  rw [val_main_v9_apply, ← row0_apply x0 x2 ids hid]
  exact congrArg _ (funext fun a => Fin.ext (by match a with | ⟨0, _⟩ => rfl | ⟨1, _⟩ => rfl))

/-- The imaginary parts of the head row. -/
theorem head_im (i : Fin 16384) (d : Fin 128) :
    val_main_v10 (F := Ideal) x0 x2 (ix2 i d) = x0 (ix2 (node (ids i 0)) (upper d)) := by
  rw [val_main_v10_apply, ← row0_apply x0 x2 ids hid]
  exact congrArg _ (funext fun a => Fin.ext (by match a with | ⟨0, _⟩ => rfl | ⟨1, _⟩ => rfl))

/-- The real parts of the tail row. -/
theorem tail_re (i : Fin 16384) (d : Fin 128) :
    val_main_v11 (F := Ideal) x0 x2 (ix2 i d) = x0 (ix2 (node (ids i 2)) (lower d)) := by
  rw [val_main_v11_apply, ← row2_apply x0 x2 ids hid]
  exact congrArg _ (funext fun a => Fin.ext (by match a with | ⟨0, _⟩ => rfl | ⟨1, _⟩ => rfl))

/-- The imaginary parts of the tail row. -/
theorem tail_im (i : Fin 16384) (d : Fin 128) :
    val_main_v12 (F := Ideal) x0 x2 (ix2 i d) = x0 (ix2 (node (ids i 2)) (upper d)) := by
  rw [val_main_v12_apply, ← row2_apply x0 x2 ids hid]
  exact congrArg _ (funext fun a => Fin.ext (by match a with | ⟨0, _⟩ => rfl | ⟨1, _⟩ => rfl))

/-- The cosines of the relation's angles. -/
theorem rel_cos (i : Fin 16384) (d : Fin 128) :
    val_main_v13 (F := Ideal) x1 x2 (ix2 i d) = Ideal.cos (x1 (ix2 (ids i 1) d)) := by
  rw [val_main_v13_apply, row1_apply x1 x2 ids hid]
  rfl

/-- The sines of the relation's angles. -/
theorem rel_sin (i : Fin 16384) (d : Fin 128) :
    val_main_v14 (F := Ideal) x1 x2 (ix2 i d) = Ideal.sin (x1 (ix2 (ids i 1) d)) := by
  rw [val_main_v14_apply, row1_apply x1 x2 ids hid]
  rfl

/-- The length of one complex difference: the square root of zero plus the two squares. -/
theorem length_apply (i : Fin 16384) (d : Fin 128) :
    val_main_v26 (F := Ideal) x0 x1 x2 (ix2 i d)
      = length (x0 (ix2 (node (ids i 0)) (lower d))) (x0 (ix2 (node (ids i 0)) (upper d)))
          (Ideal.cos (x1 (ix2 (ids i 1) d))) (Ideal.sin (x1 (ix2 (ids i 1) d)))
          (x0 (ix2 (node (ids i 2)) (lower d))) (x0 (ix2 (node (ids i 2)) (upper d))) := by
  have h0 : val_main_v25 (F := Ideal) x0 x1 x2 (ix3 i d (0 : Fin 2)) = val_main_v21 (F := Ideal) x0 x1 x2 (ix2 i d) := by
    unfold val_main_v25
    rw [concatenate_pair_apply_left 2 _ _ concatenates_S16384x128x1_S16384x128x1_S16384x128x2_d2 _ rfl (ix3 i d (0 : Fin 1))
      (fun b => by match b with | ⟨0, _⟩ => rfl | ⟨1, _⟩ => rfl | ⟨2, _⟩ => rfl), val_main_v23_apply]
    exact congrArg _ (funext fun a => Fin.ext (by match a with | ⟨0, _⟩ => rfl | ⟨1, _⟩ => rfl))
  have h1 : val_main_v25 (F := Ideal) x0 x1 x2 (ix3 i d (1 : Fin 2)) = val_main_v22 (F := Ideal) x0 x1 x2 (ix2 i d) := by
    unfold val_main_v25
    rw [concatenate_pair_apply_right 2 _ _ concatenates_S16384x128x1_S16384x128x1_S16384x128x2_d2 _ rfl rfl
      (ix3 i d (0 : Fin 1))
      (fun b hb => by match b with | ⟨0, _⟩ => rfl | ⟨1, _⟩ => rfl | ⟨2, _⟩ => exact absurd rfl hb) rfl, val_main_v24_apply]
    exact congrArg _ (funext fun a => Fin.ext (by match a with | ⟨0, _⟩ => rfl | ⟨1, _⟩ => rfl))
  have e (k : Fin 2) : idx_main_call3_v1 (ix2 i d) k = ix3 i d k :=
    funext fun a => Fin.ext (by match a with | ⟨0, _⟩ => rfl | ⟨1, _⟩ => rfl | ⟨2, _⟩ => rfl)
  rw [val_main_v26_apply, val_main_call3_v1_apply, Fin.sum_univ_two, e, e, val_main_call3_v0_apply, val_main_call3_v0_apply,
    h0, h1, val_main_v21_apply, val_main_v22_apply, val_main_v17_apply, val_main_v20_apply, val_main_v15_apply,
    val_main_v16_apply, val_main_v18_apply, val_main_v19_apply, head_re x0 x2 ids hid, head_im x0 x2 ids hid,
    tail_re x0 x2 ids hid, tail_im x0 x2 ids hid, rel_cos x1 x2 ids hid, rel_sin x1 x2 ids hid]
  show Ideal.sqrt (Ideal.ofBits .f32 0x00000000#32 + _) = _
  rw [Ideal.ofBits_zero_f32, zero_add]
  rfl

/-- The reference's result at a triplet is the score formula of the triplet's three ids. -/
theorem result_apply (i : Fin 16384) :
    val_main_v29 (F := Ideal) x0 x1 x2 (ix1 i) = score x0 x1 (ids i 0) (ids i 1) (ids i 2) := by
  rw [val_main_v29_apply, val_main_v28_apply, val_main_v27_apply]
  show Ideal.ofBits .f32 0x41400000#32 - (Ideal.ofBits .f32 0x00000000#32 + _) = _
  rw [Ideal.ofBits_zero_f32, zero_add]
  unfold score
  refine congrArg (_ - ·) (Finset.sum_congr rfl fun d _ => ?_)
  rw [← length_apply x0 x1 x2 ids hid]
  exact congrArg _ (funext fun a => Fin.ext (by match a with | ⟨0, _⟩ => rfl | ⟨1, _⟩ => rfl))

end

end Cert.ReferenceIdeal.Scores

end
-- ==== Proof.Equation.lean ====
/-
  The kernel's result is the reference's, over the extended reals, when every id of the triplets is from 0 up to 999: both
  are the score formula at each triplet.
-/
module

public import proofs.«01_k».proof.Defs
public import proofs.«01_k».proof.Proof.Score
public import proofs.«01_k».proof.Proof.Reference

@[expose] public section

set_option maxRecDepth 16384

noncomputable section

namespace Cert.RotateScore

open Idealize.ShloMosaic Idealize.ShloMosaic.TcCoe Idealize.ShloMosaic.ValueIdx

/-- The precondition's one side condition: a scalar broadcasts to the triplets' shape. -/
theorem range_facts : Cert.Pre_ids_in_range.Facts := ⟨by decide⟩

/-- The precondition read at an element: the id, as a natural number, is below 1000. -/
theorem id_lt [Cert.Pre_ids_in_range.Facts] (x0 : Vec Ideal ⟨2, ![100000, 256]⟩ .f32) (x1 : Vec Ideal ⟨2, ![1000, 128]⟩ .f32)
    (x2 : Vec Ideal ⟨2, ![16384, 3]⟩ .i32) (h : Cert.Pre_ids_in_range.fn (F := Ideal) x0 x1 x2 = fun _ => 1#1)
    (i : Fin 16384) (o : Fin 3) : (x2 (ix2 i o)).toNat < 1000 := by
  have h1 := congrFun h (ix2 i o)
  have h2 : IntOp.andi (IntOp.cmpi .sge (x2 (ix2 i o)) 0#32) (IntOp.cmpi .slt (x2 (ix2 i o)) (BitVec.ofNat 32 1000)) = 1#1 := h1
  rw [WordCmp.andi_sge_zero_slt_ofNat (by decide)] at h2
  by_contra hn
  rw [decide_eq_false hn] at h2
  exact absurd h2 (by decide)

/-- The kernel's result at triplet `i` is the score formula of its three ids. -/
theorem kernel_apply (m : (ℓ : Loc Cert.KernelIdeal.nD Cert.KernelIdeal.τ Cert.KernelIdeal.sig) → Buf (Elt Ideal) ℓ)
    (c : Dev Cert.KernelIdeal.nD) (ids : Fin 16384 → Fin 3 → Fin 1000)
    (hid : ∀ (i : Fin 16384) (o : Fin 3),
      (m ((c.tc : Thread Cert.KernelIdeal.nD Cert.KernelIdeal.τ).loc Cert.KernelIdeal.main_arg2) (ix2 i o) : BitVec 32)
        = BitVec.ofNat 32 (ids i o).val) (i : Fin 16384) :
    (Cert.KernelIdeal.Scores.result m c (ix1 i) : EReal)
      = score (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) (ids i 0) (ids i 1) (ids i 2) := by
  have hi := i.isLt
  have hj : i.val % 4096 < 4096 := Nat.mod_lt _ (by decide)
  let t : Fin 4 := ⟨i.val / 4096, by omega⟩
  let j : Fin 4096 := ⟨i.val % 4096, hj⟩
  unfold Cert.KernelIdeal.Scores.result
  refine (shapeCast_apply _ _ (ix1 i) (ix3 t (0 : Fin 1) j) (by
    rw [Shape.rowMajor_val_one, Shape.rowMajor_val_three]
    show (i.val / 4096 * 1 + 0) * 4096 + i.val % 4096 = i.val; omega)).trans ?_
  exact Cert.KernelIdeal.Scores.blockScores_apply _ _ _ t j i (by show i.val = 4096 * (i.val / 4096) + i.val % 4096; omega)
    (ids i 0) (ids i 1) (ids i 2) (hid i 0) (hid i 1) (hid i 2)

/-- On equal arguments whose ids are in range, the kernel's result is the reference's. -/
theorem result_eq [Cert.Pre_ids_in_range.Facts]
    (m : (ℓ : Loc Cert.KernelIdeal.nD Cert.KernelIdeal.τ Cert.KernelIdeal.sig) → Buf (Elt Ideal) ℓ)
    (x0 : Vec Ideal ⟨2, ![100000, 256]⟩ .f32) (x1 : Vec Ideal ⟨2, ![1000, 128]⟩ .f32) (x2 : Vec Ideal ⟨2, ![16384, 3]⟩ .i32)
    (c : Dev Cert.KernelIdeal.nD)
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (hpre : Cert.Pre_ids_in_range.fn (F := Ideal) x0 x1 x2 = fun _ => 1#1) :
    Cert.ReferenceIdeal.Read.val_main_v29 (F := Ideal) x0 x1 x2 = Cert.KernelIdeal.Scores.result m c := by
  let ids : Fin 16384 → Fin 3 → Fin 1000 := fun i o => ⟨(x2 (ix2 i o)).toNat, id_lt x0 x1 x2 hpre i o⟩
  have hid : ∀ (i : Fin 16384) (o : Fin 3), x2 (ix2 i o) = BitVec.ofNat 32 (ids i o).val := fun i o =>
    ((BitVec.ofNat_toNat 32 (x2 (ix2 i o))).trans (BitVec.setWidth_eq _)).symm
  funext y
  have hy : y = ix1 (y 0) := eq_ix1 (n := 16384) y
  rw [hy]
  have hk := kernel_apply m c ids (fun i o => (congrFun h2 (ix2 i o)).symm.trans (hid i o)) (y 0)
  rw [← h0, ← h1] at hk
  exact (Cert.ReferenceIdeal.Scores.result_apply x0 x1 x2 ids hid (y 0)).trans hk.symm

end Cert.RotateScore

end
-- ==== Proof.lean ====
/-
  The proof of the certificate's claim: the kernel, its ideal reading and the reference each run to the end with their
  arguments unchanged and every semaphore counter at zero, and over the extended reals the kernel's scores are the
  reference's whenever every id of the triplets is from 0 up to 999.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments unchanged, and declares no semaphore whose counter could be left standing. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments whose ids are in range, the kernel and the reference end with equal scores, as extended reals. -/
theorem scores_equal : Cert.algebraic_KernelIdeal_ReferenceIdeal_pre_ids_in_range (hKernelIdeal := Cert.KernelIdeal.Gen.facts)
    (hReferenceIdeal := Cert.ReferenceIdeal.Gen.facts) (hPre_ids_in_range := Cert.RotateScore.range_facts) := by
  intro m ρ m' ρ' hpre hargs
  refine ⟨Cert.KernelIdeal.Scores.result m,
    (θ_run Cert.KernelIdeal.defs _ _).mono (fun _ h c => ⟨h.1 c, h.2 c⟩) (Cert.KernelIdeal.Scores.run (F := Ideal) m ρ),
    (θ_run Cert.ReferenceIdeal.defs _ _).mono (fun _ h c => ⟨(h c).1.trans ?_, (h c).2⟩)
      (Cert.ReferenceIdeal.Value.run (F := Ideal) m' ρ')⟩
  rw [Cert.ReferenceIdeal.Read.val_main_v29_eq]
  obtain ⟨h0, h1, h2⟩ := hargs c
  haveI := Cert.RotateScore.range_facts
  refine Cert.RotateScore.result_eq m _ _ _ c h0 h1 h2 ?_
  rw [h0, h1, h2]
  exact hpre c

/-- Every claim of the certificate: the frames of the kernel, of its ideal reading and of the reference, the empty list of
    rewrites between the first two, and the equality of the scores. -/
theorem claim : Cert.Claim :=
  ⟨Cert.Kernel.Gen.facts, Cert.KernelIdeal.Gen.facts, Cert.ReferenceIdeal.Gen.facts, Cert.RotateScore.range_facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    scores_equal⟩

end Cert.Proof

end
